-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_round_up [hPre_lengths_round_up : Cert.Pre_lengths_round_up.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_round_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_round_up [hPre_lengths_round_up : Cert.Pre_lengths_round_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_round_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_lengths_round_up [hKernelIdeal : Cert.KernelIdeal.Facts] [hPre_lengths_round_up : Cert.Pre_lengths_round_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_round_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_lengths_round_up [hReferenceIdeal : Cert.ReferenceIdeal.Facts] [hPre_lengths_round_up : Cert.Pre_lengths_round_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_round_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_lengths_round_up [hKernelIdeal : Cert.KernelIdeal.Facts] [hReferenceIdeal : Cert.ReferenceIdeal.Facts] [hPre_lengths_round_up : Cert.Pre_lengths_round_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_round_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_lengths_round_up : Cert.Pre_lengths_round_up.Facts),
    quiescent_Kernel (hKernel := hKernel)
    ∧ quiescent_KernelIdeal (hKernelIdeal := hKernelIdeal)
    ∧ quiescent_KernelIdeal_pre_lengths_round_up (hKernelIdeal := hKernelIdeal) (hPre_lengths_round_up := hPre_lengths_round_up)
    ∧ quiescent_ReferenceIdeal (hReferenceIdeal := hReferenceIdeal)
    ∧ quiescent_ReferenceIdeal_pre_lengths_round_up (hReferenceIdeal := hReferenceIdeal) (hPre_lengths_round_up := hPre_lengths_round_up)
    ∧ preserves_Kernel_KernelIdeal
    ∧ algebraic_KernelIdeal_ReferenceIdeal_pre_lengths_round_up (hKernelIdeal := hKernelIdeal) (hReferenceIdeal := hReferenceIdeal) (hPre_lengths_round_up := hPre_lengths_round_up)
-- ==== Pre_lengths_round_up.lean ====
abbrev S16x2048x1024 : Shape := ⟨3, ![16, 2048, 1024]⟩
abbrev S16 : Shape := ⟨1, ![16]⟩
abbrev S1024x1024 : Shape := ⟨2, ![1024, 1024]⟩
abbrev S1024 : Shape := ⟨1, ![1024]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x2048x1024 .f32) (main_arg1 : IVec S16 32) (main_arg2 : FVec F S1024x1024 .f32) (main_arg3 : FVec F S1024 .f32) (main_arg4 : FVec F S1024 .f32) (main_arg5 : FVec F S1024 .f32) : IVec S16 1 :=
  let main_c : IVec S_ 32 := constantI S_ 32 2147482624#32
  let main_v0 : IVec S16 32 := broadcastInDim S16 ![] bcast_S_S16 main_c
  let main_v1 : IVec S16 1 := cmpi .sle main_arg1 main_v0
  main_v1
-- ==== Kernel.lean ====
abbrev S16x2048x1024 : Shape := ⟨3, ![16, 2048, 1024]⟩
abbrev S16 : Shape := ⟨1, ![16]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S1 : Shape := ⟨1, ![1]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 8
  | .smem => 1
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024x1024, .f32⟩
  | .local _ .vmem, ⟨7, _⟩ => ⟨S1x1024x1024, .f32⟩
  | .local _ .smem, ⟨0, _⟩ => ⟨S16, .i32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v1 : BitVec 32) : BitVec 1 :=
  let arg1 : BitVec 32 := BitVec.ofNat 32 (i 1).val
  let c1024_i32 : BitVec 32 := 1024#32
  let v2 : BitVec 32 := Scalar.muli arg1 c1024_i32
  let c0_i32 : BitVec 32 := 0#32
  let v3 : BitVec 32 := Scalar.addi v2 c0_i32
  let v4 : BitVec 1 := Scalar.cmpi .slt v3 v1
  let v5 : BitVec 32 := Scalar.extui v4
  let c0_i32_0 : BitVec 32 := 0#32
  let v6 : BitVec 1 := Scalar.cmpi .ne v5 c0_i32_0
  v6

def k0_cond2 (i : grid0.Coords) (v1 : BitVec 32) : BitVec 1 :=
  let arg1 : BitVec 32 := BitVec.ofNat 32 (i 1).val
  let c1024_i32 : BitVec 32 := 1024#32
  let v2 : BitVec 32 := Scalar.muli arg1 c1024_i32
  let c0_i32 : BitVec 32 := 0#32
  let v3 : BitVec 32 := Scalar.addi v2 c0_i32
  let v7 : BitVec 1 := Scalar.cmpi .sge v3 v1
  let v8 : BitVec 32 := Scalar.extui v7
  let c0_i32_1 : BitVec 32 := 0#32
  let v9 : BitVec 1 := Scalar.cmpi .ne v8 c0_i32_1
  v9

def k0_cond3 (i : grid0.Coords) (v1 : BitVec 32) : BitVec 1 :=
  let arg1 : BitVec 32 := BitVec.ofNat 32 (i 1).val
  let c1024_i32 : BitVec 32 := 1024#32
  let v2 : BitVec 32 := Scalar.muli arg1 c1024_i32
  let c256_i32 : BitVec 32 := 256#32
  let v10 : BitVec 32 := Scalar.addi v2 c256_i32
  let v11 : BitVec 1 := Scalar.cmpi .slt v10 v1
  let v12 : BitVec 32 := Scalar.extui v11
  let c0_i32_2 : BitVec 32 := 0#32
  let v13 : BitVec 1 := Scalar.cmpi .ne v12 c0_i32_2
  v13

def k0_cond4 (i : grid0.Coords) (v1 : BitVec 32) : BitVec 1 :=
  let arg1 : BitVec 32 := BitVec.ofNat 32 (i 1).val
  let c1024_i32 : BitVec 32 := 1024#32
  let v2 : BitVec 32 := Scalar.muli arg1 c1024_i32
  let c256_i32 : BitVec 32 := 256#32
  let v10 : BitVec 32 := Scalar.addi v2 c256_i32
  let v14 : BitVec 1 := Scalar.cmpi .sge v10 v1
  let v15 : BitVec 32 := Scalar.extui v14
  let c0_i32_3 : BitVec 32 := 0#32
  let v16 : BitVec 1 := Scalar.cmpi .ne v15 c0_i32_3
  v16

def k0_cond5 (i : grid0.Coords) (v1 : BitVec 32) : BitVec 1 :=
  let arg1 : BitVec 32 := BitVec.ofNat 32 (i 1).val
  let c1024_i32 : BitVec 32 := 1024#32
  let v2 : BitVec 32 := Scalar.muli arg1 c1024_i32
  let c512_i32 : BitVec 32 := 512#32
  let v17 : BitVec 32 := Scalar.addi v2 c512_i32
  let v18 : BitVec 1 := Scalar.cmpi .slt v17 v1
  let v19 : BitVec 32 := Scalar.extui v18
  let c0_i32_4 : BitVec 32 := 0#32
  let v20 : BitVec 1 := Scalar.cmpi .ne v19 c0_i32_4
  v20

def k0_cond6 (i : grid0.Coords) (v1 : BitVec 32) : BitVec 1 :=
  let arg1 : BitVec 32 := BitVec.ofNat 32 (i 1).val
  let c1024_i32 : BitVec 32 := 1024#32
  let v2 : BitVec 32 := Scalar.muli arg1 c1024_i32
  let c512_i32 : BitVec 32 := 512#32
  let v17 : BitVec 32 := Scalar.addi v2 c512_i32
  let v21 : BitVec 1 := Scalar.cmpi .sge v17 v1
  let v22 : BitVec 32 := Scalar.extui v21
  let c0_i32_5 : BitVec 32 := 0#32
  let v23 : BitVec 1 := Scalar.cmpi .ne v22 c0_i32_5
  v23

def k0_cond7 (i : grid0.Coords) (v1 : BitVec 32) : BitVec 1 :=
  let arg1 : BitVec 32 := BitVec.ofNat 32 (i 1).val
  let c1024_i32 : BitVec 32 := 1024#32
  let v2 : BitVec 32 := Scalar.muli arg1 c1024_i32
  let c768_i32 : BitVec 32 := 768#32
  let v24 : BitVec 32 := Scalar.addi v2 c768_i32
  let v25 : BitVec 1 := Scalar.cmpi .slt v24 v1
  let v26 : BitVec 32 := Scalar.extui v25
  let c0_i32_6 : BitVec 32 := 0#32
  let v27 : BitVec 1 := Scalar.cmpi .ne v26 c0_i32_6
  v27

def k0_cond8 (i : grid0.Coords) (v1 : BitVec 32) : BitVec 1 :=
  let arg1 : BitVec 32 := BitVec.ofNat 32 (i 1).val
  let c1024_i32 : BitVec 32 := 1024#32
  let v2 : BitVec 32 := Scalar.muli arg1 c1024_i32
  let c768_i32 : BitVec 32 := 768#32
  let v24 : BitVec 32 := Scalar.addi v2 c768_i32
  let v28 : BitVec 1 := Scalar.cmpi .sge v24 v1
  let v29 : BitVec 32 := Scalar.extui v28
  let c0_i32_7 : BitVec 32 := 0#32
  let v30 : BitVec 1 := Scalar.cmpi .ne v29 c0_i32_7
  v30

def cc0_transform_0 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c1024_i32 : BitVec 32 := 1024#32
  let v2 : BitVec 32 := Scalar.addi v1 c1024_i32
  let c1_i32 : BitVec 32 := 1#32
  let v3 : BitVec 32 := Scalar.subi v2 c1_i32
  let c1024_i32_0 : BitVec 32 := 1024#32
  let v4 : BitVec 32 := Scalar.divsi v3 c1024_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x2048x1024 : Shape := ⟨3, ![16, 2048, 1024]⟩
abbrev S16 : Shape := ⟨1, ![16]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S16x2048 : Shape := ⟨2, ![16, 2048]⟩
abbrev S16x2048x1 : Shape := ⟨3, ![16, 2048, 1]⟩
abbrev S2048 : Shape := ⟨1, ![2048]⟩
abbrev S1x2048 : Shape := ⟨2, ![1, 2048]⟩
abbrev S16x1 : Shape := ⟨2, ![16, 1]⟩

abbrev nBuf : Space → Nat
  | .hbm => 68
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16, .i32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S16x2048x1024, .f32⟩
  | .hbm, ⟨7, _⟩ => ⟨S1x1x1024, .f32⟩
  | .hbm, ⟨8, _⟩ => ⟨S16x2048x1024, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .i32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S16x2048x1, .f32⟩
  | .hbm, ⟨46, _⟩ => ⟨S16x2048x1024, .f32⟩
  | .hbm, ⟨47, _⟩ => ⟨S16x2048x1024, .f32⟩
  | .hbm, ⟨48, _⟩ => ⟨S1x1x1024, .f32⟩
  | .hbm, ⟨49, _⟩ => ⟨S16x2048x1024, .f32⟩
  | .hbm, ⟨50, _⟩ => ⟨S16x2048x1024, .f32⟩
  | .hbm, ⟨51, _⟩ => ⟨S1x1x1024, .f32⟩
  | .hbm, ⟨52, _⟩ => ⟨S16x2048x1024, .f32⟩
  | .hbm, ⟨53, _⟩ => ⟨S16x2048x1024, .f32⟩
  | .hbm, ⟨54, _⟩ => ⟨S_, .f32⟩
  | .hbm, ⟨55, _⟩ => ⟨S16x2048x1024, .f32⟩
  | .hbm, ⟨56, _⟩ => ⟨S16x2048x1024, .f32⟩
  | .hbm, ⟨57, _⟩ => ⟨S2048, .i32⟩
  | .hbm, ⟨58, _⟩ => ⟨S1x2048, .i32⟩
  | .hbm, ⟨59, _⟩ => ⟨S16x1, .i32⟩
  | .hbm, ⟨60, _⟩ => ⟨S16x2048, .i32⟩
  | .hbm, ⟨61, _⟩ => ⟨S16x2048, .i32⟩
  | .hbm, ⟨62, _⟩ => ⟨S16x2048, .i1⟩
  | .hbm, ⟨63, _⟩ => ⟨S16x2048x1, .i1⟩
  | .hbm, ⟨64, _⟩ => ⟨S_, .f32⟩
  | .hbm, ⟨65, _⟩ => ⟨S16x2048x1024, .i1⟩
  | .hbm, ⟨66, _⟩ => ⟨S16x2048x1024, .f32⟩
  | .hbm, ⟨67, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_call1_cst : Ref sig .tc := ⟨.hbm, 54, rfl⟩
abbrev main_call1_v0 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_2 : Ref sig .tc := ⟨.hbm, 64, rfl⟩
abbrev main_call2_v0 : Ref sig .tc := ⟨.hbm, 65, rfl⟩
abbrev main_call2_v1 : Ref sig .tc := ⟨.hbm, 66, rfl⟩
abbrev main_v30 : Ref sig .tc := ⟨.hbm, 67, rfl⟩

abbrev nD : Nat := 1
abbrev τ : Topo := Topo.v7x

variable {F : FTy → Type} [FloatOps F]
-- ==== Proof.Row.lean ====
/- One row of the layer over the extended reals: the linear map, its mean and variance, and the normalised, scaled and
   clipped row. Dividing by the root of the variance and multiplying by its reciprocal root are one thing, at infinities
   too, because the variance is never negative. -/
module

public import Idealize.ShloMosaic.PureOps.Ideal
public import Idealize.ShloMosaic.Lib.Pointwise

@[expose] public section

noncomputable section

namespace Cert.Row

open Idealize.ShloMosaic

/-- The row's length as the programs write it. -/
abbrev size : EReal := Ideal.ofBits .f32 0x44800000#32

/-- What is added to the variance before its root. -/
abbrev eps : EReal := Ideal.ofBits .f32 0x3727C5AC#32

/-- The linear map's row: `x W + b`. -/
def lin (x : Fin 1024 → EReal) (w : Fin 1024 → Fin 1024 → EReal) (b : Fin 1024 → EReal) (j : Fin 1024) : EReal :=
  ∑ k, x k * w k j + b j

/-- The row less its mean. -/
def cent (h : Fin 1024 → EReal) (j : Fin 1024) : EReal := h j - Ideal.div (∑ k, h k) size

/-- The row's variance. -/
def var (h : Fin 1024 → EReal) : EReal := Ideal.div (∑ k, cent h k * cent h k) size

/-- The row normalised, scaled, shifted and clipped at zero. -/
def out (h g be : Fin 1024 → EReal) (j : Fin 1024) : EReal :=
  max (Ideal.div (cent h j) (Ideal.sqrt (var h + eps)) * g j + be j) 0

/-- The length is 1024. -/
theorem size_eq : size = ((1024 : ℝ) : EReal) := by
  simp [Ideal.ofBits, Ideal.ieee, -EReal.coe_mul]; norm_num

/-- What is added is a positive real. -/
theorem eps_pos : ∃ e : ℝ, 0 < e ∧ eps = (e : EReal) := by
  refine ⟨10995116 / 2 ^ 40, by norm_num, ?_⟩
  simp [Ideal.ofBits, Ideal.ieee, -EReal.coe_mul]; norm_num

/-- A square is not negative, infinities included. -/
theorem sq_nonneg (a : EReal) : 0 ≤ a * a := by
  rcases le_total 0 a with h | h
  · exact mul_nonneg h h
  · rw [← neg_mul_neg]
    exact mul_nonneg (EReal.neg_nonneg.mpr h) (EReal.neg_nonneg.mpr h)

/-- The variance is not negative. -/
theorem var_nonneg (h : Fin 1024 → EReal) : 0 ≤ var h := by
  unfold var
  rw [size_eq, Ideal.div_coe (by norm_num : (1024 : ℝ) ≠ 0)]
  exact mul_nonneg (Finset.sum_nonneg fun k _ => sq_nonneg _) (by exact_mod_cast (by norm_num : (0 : ℝ) ≤ 1 / 1024))

/-- Dividing by the root is multiplying by the reciprocal root, at a value that is at least a positive real. -/
theorem div_sqrt (a v : EReal) (e : ℝ) (he : 0 < e) (hv : (e : EReal) ≤ v) : Ideal.div a (Ideal.sqrt v) = a * Ideal.rsqrt v := by
  induction v with
  | bot => exact absurd hv (by simp)
  | top => simp [Ideal.div]
  | coe r =>
    have hr : 0 < r := he.trans_le (by exact_mod_cast hv)
    have hs : Real.sqrt r ≠ 0 := (Real.sqrt_pos.mpr hr).ne'
    rw [Ideal.sqrt_coe, Ideal.rsqrt_coe, if_neg hr.not_gt, if_neg hr.not_gt, if_neg hr.ne', Ideal.div_coe hs, one_div]

/-- So a row may be normalised either way. -/
theorem div_root (h : Fin 1024 → EReal) (j : Fin 1024) :
    cent h j * Ideal.rsqrt (var h + eps) = Ideal.div (cent h j) (Ideal.sqrt (var h + eps)) := by
  obtain ⟨e, he, hp⟩ := eps_pos
  refine (div_sqrt _ _ e he ?_).symm
  rw [hp]
  exact le_add_of_nonneg_left (var_nonneg h)

end Cert.Row

end
-- ==== Proof.Ref.lean ====
/- The reference's result at an index: the row of the layer there, kept where the position is before the length. -/
module

public import proofs.«01_k».proof.Proof.Gen.ReferenceIdeal.Read
public import proofs.«01_k».proof.Proof.Row

@[expose] public section

set_option maxRecDepth 16384

noncomputable section

namespace Cert.ReferenceIdeal.Read

open Cert.ReferenceIdeal
open Idealize.ShloMosaic

variable (x0 : (⟨S16x2048x1024, .f32⟩ : BufTy).Contents (Elt Ideal)) (x1 : (⟨S16, .i32⟩ : BufTy).Contents (Elt Ideal))
  (x2 : (⟨S1024x1024, .f32⟩ : BufTy).Contents (Elt Ideal)) (x3 x4 x5 : (⟨S1024, .f32⟩ : BufTy).Contents (Elt Ideal))

/-- The linear map's row at batch `B`, position `r`. -/
abbrev row (B : Fin 16) (r : Fin 2048) : Fin 1024 → EReal :=
  Row.lin (fun k => x0 (ix3 B r k)) (fun k j => x2 (ix2 k j)) (fun j => x3 (ix1 j))

/-- The reference's linear map is that row. -/
theorem lin_apply (B : Fin 16) (r : Fin 2048) (j : Fin 1024) : val_main_v3 (F := Ideal) x0 x2 x3 (ix3 B r j) = row x0 x2 x3 B r j := by
  unfold row Row.lin
  pointwise [val_main_v3, val_main_v2, val_main_v1, val_main_v0]

/-- Its mean, as the reference takes it for the numerator, -/
theorem cent_apply (B : Fin 16) (r : Fin 2048) (j : Fin 1024) : val_main_v10 (F := Ideal) x0 x2 x3 (ix3 B r j) = Row.cent (row x0 x2 x3 B r) j := by
  pointwise [val_main_v10, val_main_v9, val_main_v7, val_main_v6, val_main_cst_0, val_main_v5, val_main_v4, val_main_cst]
  simp only [lin_apply, Row.cent]

/-- and for the variance. -/
theorem cent_apply_var (B : Fin 16) (r : Fin 2048) (j : Fin 1024) : val_main_call0_v5 (F := Ideal) x0 x2 x3 (ix3 B r j) = Row.cent (row x0 x2 x3 B r) j := by
  pointwise [val_main_call0_v5, val_main_call0_v4, val_main_call0_v3, val_main_call0_v2, val_main_call0_cst_0, val_main_call0_v1, val_main_call0_v0, val_main_call0_cst]
  simp only [lin_apply, Row.cent]

/-- No degree of freedom is taken off the length. -/
theorem count_eq : Ideal.ofBits .f32 0x44800000#32 - FloatOps.sitofp (F := Ideal) .f32 (0#32 : BitVec 32) = Row.size := by
  have h : FloatOps.sitofp (F := Ideal) .f32 (0#32 : BitVec 32) = (0 : EReal) := by
    show (((0#32 : BitVec 32).toInt : ℝ) : EReal) = 0
    simp
  rw [h, sub_zero]

/-- The variance. -/
theorem var_apply (B : Fin 16) (r : Fin 2048) (z : Fin 1) : val_main_v8 (F := Ideal) x0 x2 x3 (ix3 B r z) = Row.var (row x0 x2 x3 B r) := by
  pointwise [val_main_v8, val_main_call0_v13, val_main_call0_v8, val_main_call0_cst_1, val_main_call0_v7, val_main_c, val_main_call0_cst_3,
    val_main_call0_v12, val_main_call0_v11, val_main_call0_v10, val_main_call0_v9, val_main_call0_cst_2, val_main_call0_v6]
  rw [count_eq, if_pos (by rw [Row.size_eq]; exact_mod_cast (by norm_num : (0 : ℝ) < 1024))]
  simp only [cent_apply_var, Row.var]

/-- The reference's result at batch `B`, position `r`, feature `j`. -/
theorem result_apply (B : Fin 16) (r : Fin 2048) (j : Fin 1024) :
    val_main_v30 (F := Ideal) x0 x1 x2 x3 x4 x5 (ix3 B r j)
      = Scalar.select (IntOp.cmpi .slt (BitVec.ofNat 32 r.val) (x1 (ix1 B))) (Row.out (row x0 x2 x3 B r) (fun j => x4 (ix1 j)) (fun j => x5 (ix1 j)) j) (0 : EReal) := by
  pointwise [val_main_v30, val_main_call2_v1, val_main_call2_v0, val_main_cst_2, val_main_v29, val_main_v28, val_main_v27, val_main_v26, val_main_v25, val_main_v24, val_main_v23,
    val_main_v22, val_main_call1_v0, val_main_call1_cst, val_main_v21, val_main_v20, val_main_v19, val_main_v18, val_main_v17, val_main_v16, val_main_v15, val_main_v14, val_main_v13, val_main_v12, val_main_v11, val_main_cst_1]
  simp only [cent_apply, var_apply, Row.out]

end Cert.ReferenceIdeal.Read

end
-- ==== Proof.Tile.lean ====
/- Which block of rows the kernel stages: the block index of `inputs`, a word computed from the sequence's length. It is
   the row tile's own number while the tile holds a valid row, and never leaves the array, whatever the length. -/
module

public import proofs.«01_k».proof.Proof.Gen.KernelIdeal
public import Idealize.ShloMosaic.Lib.Affine
public import Idealize.ShloMosaic.Lib.WordCmp
public import Idealize.ShloMosaic.Lib.WordArith

@[expose] public section

noncomputable section

namespace Cert.KernelIdeal.Tile

open Cert.KernelIdeal Cert.KernelIdeal.Gen Idealize.ShloMosaic

variable {F : FTy → Type} [FloatOps F]

/-- The number of the last tile of 1024 rows that holds a valid row when `n` rows are valid, before it is clamped at
    zero: `(n + 1023)` divided by 1024 rounding down, less one, in the words' own arithmetic. -/
def lastTile (n : BitVec 32) : BitVec 32 :=
  let v := Scalar.subi (Scalar.addi n 1024#32) 1#32
  let q := Scalar.divsi v 1024#32
  let sv := Scalar.subi (Scalar.extui (Scalar.cmpi .sgt v 0#32)) (Scalar.extui (Scalar.cmpi .slt v 0#32))
  let sd : BitVec 32 := Scalar.subi (Scalar.extui (Scalar.cmpi .sgt 1024#32 0#32)) (Scalar.extui (Scalar.cmpi .slt 1024#32 0#32))
  let down := Scalar.andi (Scalar.cmpi .ne sv sd) (Scalar.cmpi .ne (Scalar.remsi v 1024#32) 0#32)
  Scalar.subi (Scalar.select down (Scalar.subi q 1#32) q) 1#32

/-- The tile staged for tile `s`: `s`, or the last valid one if that comes sooner. -/
def staged (s n : BitVec 32) : BitVec 32 := Scalar.minsi s (Scalar.maxsi (lastTile n) 0#32)

/-- Signed readings of words are equal when the library's relation says so. -/
theorem toInt_of_isInt {x : BitVec 32} {e : Int} (h : Affine.IsInt x e) : x.toInt = e := by
  unfold Affine.IsInt at h; exact h

/-- The signed reading of a small number's word is the number. -/
theorem toInt_ofNat_small (s : Nat) (h : s < 2 ^ 31) : (BitVec.ofNat 32 s).toInt = s := by
  have e := BitVec.toInt_eq_toNat_cond (BitVec.ofNat 32 s)
  rw [BitVec.toNat_ofNat, Nat.mod_eq_of_lt (by omega)] at e
  split at e <;> omega

/-- The staged tile, read signed: the smaller of `s` and the last valid tile clamped at zero. -/
theorem toInt_staged (s n : BitVec 32) : (staged s n).toInt = min s.toInt (max (lastTile n).toInt 0) :=
  toInt_of_isInt (Affine.minsi (Affine.word s) (Affine.maxsi (Affine.word (lastTile n)) (Affine.word 0#32) rfl) rfl)

/-- The staged tile never exceeds the tile asked for, whatever the length. -/
theorem staged_le (s : Nat) (hs : s < 2) (n : BitVec 32) : (staged (BitVec.ofNat 32 s) n).toNat ≤ s := by
  have h := toInt_staged (BitVec.ofNat 32 s) n
  rw [toInt_ofNat_small s (by omega)] at h
  have e := BitVec.toInt_eq_toNat_cond (staged (BitVec.ofNat 32 s) n)
  split at e <;> omega

/-- With more than 1024 valid rows, few enough that rounding up stays an i32, the last valid tile is not the first. -/
theorem one_le_lastTile (n : BitVec 32) (lo : 1024 < n.toInt) (hi : n.toInt ≤ 2147482624) : 1 ≤ (lastTile n).toInt := by
  have ev : Scalar.subi (Scalar.addi n 1024#32) 1#32 = Scalar.addi n 1023#32 := by
    simp only [Scalar.subi, Scalar.addi, IntOp.subi, IntOp.addi]; bv_omega
  have hv : Affine.IsInt (Scalar.addi n 1023#32) (n.toInt + 1023) :=
    Affine.addi (Affine.word n) (Affine.ofNat 1023 (e := 1023) ⟨rfl, by omega⟩) ⟨rfl, by omega, by omega⟩
  have hq := Affine.divsi hv (Affine.ofNat 1024 (e := 1024) ⟨rfl, by omega⟩) ⟨rfl, by omega, by omega⟩
  have pos : Scalar.cmpi .sgt (Scalar.addi n 1023#32) 0#32 = 1#1 := by
    have h := toInt_of_isInt hv
    show IntOp.cmpi .sgt _ _ = _
    rw [WordCmp.cmpi_sgt_eq, WordArith.ofBool_eq_one_iff, decide_eq_true_eq, h]
    show (0 : Int) < _; omega
  have neg : Scalar.cmpi .slt (Scalar.addi n 1023#32) 0#32 = 0#1 := by
    have h := toInt_of_isInt hv
    show IntOp.cmpi .slt _ _ = _
    rw [WordCmp.cmpi_slt_eq, h, decide_eq_false (show ¬ n.toInt + 1023 < (0#32 : BitVec 32).toInt by
      show ¬ _ < (0 : Int); omega)]
    rfl
  have e : lastTile n = Scalar.subi (Scalar.divsi (Scalar.addi n 1023#32) 1024#32) 1#32 := by
    have same (b : BitVec 1) : Scalar.andi (Scalar.cmpi .ne (Scalar.subi (Scalar.extui (1#1)) (Scalar.extui (0#1)) : BitVec 32)
        (Scalar.subi (Scalar.extui (Scalar.cmpi .sgt 1024#32 0#32)) (Scalar.extui (Scalar.cmpi .slt 1024#32 0#32)))) b = 0#1 := by
      revert b; decide
    unfold lastTile
    simp only [ev, pos, neg, same]
    rfl
  have hr := toInt_of_isInt (Affine.subi hq (Affine.ofNat 1 (e := 1) ⟨rfl, by omega⟩) ⟨rfl, by omega, by omega⟩)
  rw [e, hr]; omega

/-- While the tile holds a valid row the tile staged is the tile itself. -/
theorem staged_eq (s : Nat) (hs : s < 2) (n : BitVec 32) (live : 1024 * (s : Int) < n.toInt) (hi : n.toInt ≤ 2147482624) :
    (staged (BitVec.ofNat 32 s) n).toNat = s := by
  have h := toInt_staged (BitVec.ofNat 32 s) n
  rw [toInt_ofNat_small s (by omega)] at h
  have e := BitVec.toInt_eq_toNat_cond (staged (BitVec.ofNat 32 s) n)
  have l : s = 1 → 1 ≤ (lastTile n).toInt := fun h1 => one_le_lastTile n (by subst h1; omega) hi
  split at e <;> omega

/-- The index map of `inputs`, with its arithmetic named. -/
theorem transform_0_eq (pf : pre0.Contents (Elt F)) (i : grid0.Coords) :
    cc0_transform_0 k0_off1_inb numel1_S1 pf i
      = ![(BitVec.ofNat 32 (i 0).val).toNat,
          (staged (BitVec.ofNat 32 (i 1).val)
            (pf.at 0 (Rect.unit (s := S16) (k0_off1 i) S1.size (k0_off1_inb i)) numel1_S1)).toNat, 0] := rfl

/-- The block of `inputs` staged at any point lies inside the array, whatever the lengths. -/
theorem ok_all (pf : pre0.Contents (Elt F)) : ok0 pf := by
  intro i
  refine ⟨fun a => ?_, .inl rfl⟩
  rw [transform_0_eq]
  have h0 : (i 0).val < 16 := (i 0).isLt
  have h1 := staged_le (i 1).val (i 1).isLt (pf.at 0 (Rect.unit (s := S16) (k0_off1 i) S1.size (k0_off1_inb i)) numel1_S1)
  have h2 : (i 1).val < 2 := (i 1).isLt
  have e0 : (BitVec.ofNat 32 (i 0).val).toNat = (i 0).val := WordArith.toNat_ofNat_of_lt _ (by omega)
  match a with
  | ⟨0, _⟩ => show ((BitVec.ofNat 32 (i 0).val).toNat + 1) * 1 ≤ 16; omega
  | ⟨1, _⟩ => exact Nat.le_trans (Nat.mul_le_mul_right 1024 (Nat.add_le_add_right h1 1)) (by show _ * 1024 ≤ 2048; omega)
  | ⟨2, _⟩ => show (0 + 1) * 1024 ≤ 1024; omega

end Cert.KernelIdeal.Tile

end
-- ==== Proof.Setup.lean ====
/- The launch's set-up: the buffers when the pipeline is entered, the lengths' table it reads, the block each window
   stages at each point, and how the arguments are read back after the run. -/
module

public import proofs.«01_k».proof.Proof.Gen.KernelIdeal.Launch
public import proofs.«01_k».proof.Proof.Gen.KernelIdeal.Skeleton
public import proofs.«01_k».proof.Proof.Tile
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the pipeline -/

/-- A device's buffers when the pipeline is entered: after the three reshapes. -/
abbrev V (c : Dev nD) (b : Ref sig .tc) : Buf (Elt F) ((c : Thread nD τ).loc b) :=
  StableHlo.after hostOps0 (fun b => m (c, b)) b

/-- The reshapes read no fresh buffer. -/
theorem hostOps0_fresh : (hostOps0 : List (HloOp τ sig (Elt F))).Forall fun op => op.fresh = ∅ := by
  simp only [List.Forall]; repeat' constructor

set_option maxHeartbeats 800000 in
/-- The program up to the pipeline: the reshapes, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer no reshape writes is entered as it was launched. -/
theorem V_of_ne (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne h0, StableHlo.devRef_ne_of_ne h1, StableHlo.devRef_ne_of_ne h2⟩))

/-! ## The lengths' table -/

/-- The table's contents when the pipeline is entered. -/
def tbl : pre0.Contents (Elt F) := fun j => V m (0 : Dev nD) (pre0.ref j)

/-- Every device holds them: there is one. -/
theorem V_pre (c : Dev nD) (j : Fin 1) : V m c (pre0.ref j) = tbl m j := by
  obtain rfl : c = 0 := Subsingleton.elim _ _; rfl

/-- The table as contents the pipeline accepts: it accepts any. -/
abbrev adm : (pcfg0 (F := F)).Adm := ⟨tbl m, Tile.ok_all (tbl m)⟩

/-- The pipeline at the table's contents. -/
abbrev cfgM : Pipeline.Cfg sig Λ₀ := cfg0 (adm m)

/-- The table as the body is handed it. -/
abbrev lens : Memref sig .tc .smem S16 .i32 := Memref.whole main_arg1

/-- Half of the table's buffer, held at the contents `f`: enough to read it. -/
abbrev lensPt (c : Dev nD) {S : Shape} {e : EltTy} (M : Memref sig .tc .smem S e) (f : Buf (Elt F) (M.view.loc (c : Thread nD τ))) : sProp 𝕄 :=
  M.view.loc (c : Thread nD τ) ↦{fullShare.right} f

/-- What the pipeline hands the body of the table. -/
theorem lens_eq (c : Dev nD) : (Pipeline.ΦT pre0 (tbl m) c : sProp 𝕄) = iprop(lensPt c lens (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the pipeline finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The result's window is written back at every point. -/
theorem flush_result (a : (pcfg0 (F := F)).Adm) : ∀ t : Fin (cfg0 a).N, ((cfg0 a).win 5).flush t = true :=
  (fun t => (Pipeline.Window.flushOf_reads cc0_transform_5 reads0_5 hreads0_5 1 (by decide) (by decide)
    (Pipeline.Window.sep_of_coord cc0_transform_5 1 1 (fun _ => rfl) (by decide)) (P := 1) (m := 0) (by decide) rfl t).mpr (Nat.mod_one _)
    : ∀ t : Fin grid0.N, Pipeline.Window.flushOf grid0 true cc0_transform_5 t = true)

/-- The body at point `t`, on the buffers the pipeline calls it with. -/
abbrev bodyAt (a : (pcfg0 (F := F)).Adm) (t : Fin (cfg0 a).N) : Prog (TpuEff nD τ sig (Elt F) Λ₀ .tc) PUnit :=
  cc0__mlp_body (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-! ## The arguments after the run -/

/-- After a run that ends as the library describes, every argument holds what it was launched with. -/
theorem args_of_run (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w)) {r : PUnit × MemSt nD τ sig (Elt F)}
    (h : Pipeline.FramePost (Pipeline.pin pcfgs fun _ => adm m) dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have rest (b : Ref sig .tc) (hb : b ∈ Pipeline.restRefs sig spec0) (h0 : b ≠ main_v0) (h1 : b ≠ main_v1) (h2 : b ≠ main_v2) :
      r.2.mem ((c.tc : Thread nD τ).loc b) = m ((c.tc : Thread nD τ).loc b) :=
    ((h c).2 b hb).trans (V_of_ne m c b h0 h1 h2)
  exact ⟨((h c).1 0).trans (((dats 0 c).arrAt_in 0 rfl _).trans ((hA c 0).trans (V_of_ne m c main_arg0 (by decide) (by decide) (by decide)))),
    rest main_arg1 (by decide) (by decide) (by decide) (by decide),
    ((h c).1 1).trans (((dats 0 c).arrAt_in 1 rfl _).trans ((hA c 1).trans (V_of_ne m c main_arg2 (by decide) (by decide) (by decide)))),
    rest main_arg3 (by decide) (by decide) (by decide) (by decide),
    rest main_arg4 (by decide) (by decide) (by decide) (by decide),
    rest main_arg5 (by decide) (by decide) (by decide) (by decide)⟩

end Cert.KernelIdeal.Run

end
-- ==== Proof.Chunk.lean ====
/- The kernel body, one chunk of 256 rows at a time: a chunk that starts before the length is computed, any other is
   zeroed, and the body is the four chunks in turn. -/
module

public import proofs.«01_k».proof.Proof.Setup
public import Idealize.ShloMosaic.Lib.WholeRead
public import Idealize.ShloMosaic.Lib.Pipeline.Value
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word the body branches on: the comparison widened and compared with zero. -/
abbrev asCond (b : BitVec 1) : BitVec 1 := Scalar.cmpi .ne (Scalar.extui b : BitVec 32) 0#32

/-- The rows at `off` of a tile, 256 of them. -/
abbrev rowsAt (off : Nat) (h : ∀ a, (![0, off, 0] : Fin 3 → Nat) a + S1x256x1024.size a ≤ S1x1024x1024.size a) : Rect S1x1024x1024 :=
  Rect.unit (s := S1x1024x1024) ![0, off, 0] S1x256x1024.size h

/-- What a computed chunk stores, from the rows and weights read, the length and the chunk's first row. -/
def chunkVal (n start : BitVec 32) (x : Vec F S1x256x1024 .f32) (w : Vec F S1024x1024 .f32) (b g be : Vec F S1x1024 .f32) : FVec F S1x256x1024 .f32 :=
  k0_pay1 (k0_pay9 x w b g be) (Scalar.ofBits .f32 0x00000000#32) (k0_pay10 (F := F) n start)

/-- One chunk, then the rest of the body. -/
def chunk (arg3 : Memref sig .tc .vmem S1x1024x1024 .f32) (arg4 : Memref sig .tc .vmem S1024x1024 .f32) (arg5 arg6 arg7 : Memref sig .tc .vmem S1x1024 .f32) (arg8 : Memref sig .tc .vmem S1x1024x1024 .f32)
    (off : Nat) (h : ∀ a, (![0, off, 0] : Fin 3 → Nat) a + S1x256x1024.size a ≤ S1x1024x1024.size a) (n start : BitVec 32)
    (next : Prog (TpuEff nD τ sig (Elt F) Λ₀ .tc) PUnit) : Prog (TpuEff nD τ sig (Elt F) Λ₀ .tc) PUnit :=
  let zero : Unit → Prog (TpuEff nD τ sig (Elt F) Λ₀ .tc) PUnit := fun _ =>
    if asCond (Scalar.cmpi .sge start n) = 1#1 then do
      let _ : Vec F S1x256x1024 .f32 ← Prog.lift (.load arg8 (rowsAt off h).toLoadRect (View.loadsAt_vmem h_S1x256x1024))
      Prog.lift (.store arg8 (rowsAt off h) (k0_pay2 (F := F)) Finset.univ (View.stores_vmem_bits_univ h_S1x256x1024 rfl) (.inl rfl))
      next
    else next
  if asCond (Scalar.cmpi .slt start n) = 1#1 then do
    let x : Vec F S1x256x1024 .f32 ← Prog.lift (.load arg3 (rowsAt off h).toLoadRect (View.loadsAt_vmem h_S1x256x1024))
    let w : Vec F S1024x1024 .f32 ← Prog.lift (.load arg4 (Rect.unit (s := S1024x1024) ![0, 0] S1024x1024.size inb_S1024x1024_S1024x1024_0_0).toLoadRect (View.loadsAt_vmem h_S1024x1024))
    let b : Vec F S1x1024 .f32 ← Prog.lift (.load arg5 (Rect.unit (s := S1x1024) ![0, 0] S1x1024.size inb_S1x1024_S1x1024_0_0).toLoadRect (View.loadsAt_vmem h_S1x1024))
    let g : Vec F S1x1024 .f32 ← Prog.lift (.load arg6 (Rect.unit (s := S1x1024) ![0, 0] S1x1024.size inb_S1x1024_S1x1024_0_0).toLoadRect (View.loadsAt_vmem h_S1x1024))
    let be : Vec F S1x1024 .f32 ← Prog.lift (.load arg7 (Rect.unit (s := S1x1024) ![0, 0] S1x1024.size inb_S1x1024_S1x1024_0_0).toLoadRect (View.loadsAt_vmem h_S1x1024))
    let _ : Vec F S1x256x1024 .f32 ← Prog.lift (.load arg8 (rowsAt off h).toLoadRect (View.loadsAt_vmem h_S1x256x1024))
    Prog.lift (.store arg8 (rowsAt off h) (chunkVal n start x w b g be) Finset.univ (View.stores_vmem_bits_univ h_S1x256x1024 rfl) (.inl rfl))
    zero ()
  else zero ()

/-- The first row of the chunk at `off` of the tile of the point `i`. -/
abbrev rowOf (i : grid0.Coords) (off : BitVec 32) : BitVec 32 := Scalar.addi (Scalar.muli (BitVec.ofNat 32 (i 1).val) 1024#32) off

set_option maxHeartbeats 4000000 in
/-- The body is its four chunks, after the length is read. -/
theorem body_eq (i : grid0.Coords) (arg2 : Memref sig .tc .smem S16 .i32) (harg2 : arg2.IsWhole) (arg3 : Memref sig .tc .vmem S1x1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024x1024 .f32) (harg8 : arg8.IsWhole) :
    cc0__mlp_body (F := F) i arg2 harg2 arg3 harg3 arg4 harg4 arg5 harg5 arg6 harg6 arg7 harg7 arg8 harg8 = (do
      let n : Elt F .i32 ← smemLoad arg2 (Rect.unit (s := S16) (k0_off1 i) S1.size (k0_off1_inb i)) numel1_S1 rfl
      chunk arg3 arg4 arg5 arg6 arg7 arg8 0 inb_S1x1024x1024_S1x256x1024_0_0_0 n (rowOf i 0#32)
        (chunk arg3 arg4 arg5 arg6 arg7 arg8 256 inb_S1x1024x1024_S1x256x1024_0_256_0 n (rowOf i 256#32)
          (chunk arg3 arg4 arg5 arg6 arg7 arg8 512 inb_S1x1024x1024_S1x256x1024_0_512_0 n (rowOf i 512#32)
            (chunk arg3 arg4 arg5 arg6 arg7 arg8 768 inb_S1x1024x1024_S1x256x1024_0_768_0 n (rowOf i 768#32) (pure ⟨⟩))))) := by
  sl_kernel_rfl

/-! ## What the chunks store -/

/-- Exactly one of a chunk's two comparisons holds. -/
theorem asCond_sge (start n : BitVec 32) : asCond (Scalar.cmpi .sge start n) = 1#1 ↔ ¬ asCond (Scalar.cmpi .slt start n) = 1#1 := by
  unfold asCond
  simp only [Scalar.cmpi, Scalar.extui]
  rw [WordCmp.cmpi_sge_eq, WordCmp.cmpi_slt_eq]
  by_cases h : start.toInt < n.toInt
  · simp [h, not_le.mpr h]; decide
  · simp [h, not_lt.mp h]; decide

/-- The rows a chunk stores, from the tile's input `x`: computed when the chunk starts before the length, else zeros. -/
def rowsOut (off : Nat) (h : ∀ a, (![0, off, 0] : Fin 3 → Nat) a + S1x256x1024.size a ≤ S1x1024x1024.size a) (n start : BitVec 32)
    (x : Vec F S1x1024x1024 .f32) (w : Vec F S1024x1024 .f32) (b g be : Vec F S1x1024 .f32) : FVec F S1x256x1024 .f32 :=
  if asCond (Scalar.cmpi .slt start n) = 1#1 then chunkVal n start (View.ld x (rowsAt off h)) w b g be else k0_pay2

/-- The four stores of the body at the point `i`, the last first. -/
def stores (i : grid0.Coords) (n : BitVec 32) (x : Vec F S1x1024x1024 .f32) (w : Vec F S1024x1024 .f32) (b g be : Vec F S1x1024 .f32) : List (View.Piece (Elt F) S1x1024x1024 .f32) :=
  [⟨rowsAt 768 inb_S1x1024x1024_S1x256x1024_0_768_0, rowsOut 768 inb_S1x1024x1024_S1x256x1024_0_768_0 n (rowOf i 768#32) x w b g be⟩,
   ⟨rowsAt 512 inb_S1x1024x1024_S1x256x1024_0_512_0, rowsOut 512 inb_S1x1024x1024_S1x256x1024_0_512_0 n (rowOf i 512#32) x w b g be⟩,
   ⟨rowsAt 256 inb_S1x1024x1024_S1x256x1024_0_256_0, rowsOut 256 inb_S1x1024x1024_S1x256x1024_0_256_0 n (rowOf i 256#32) x w b g be⟩,
   ⟨rowsAt 0 inb_S1x1024x1024_S1x256x1024_0_0_0, rowsOut 0 inb_S1x1024x1024_S1x256x1024_0_0_0 n (rowOf i 0#32) x w b g be⟩]

/-- They cover the tile. -/
theorem stores_cover (i : grid0.Coords) (n : BitVec 32) (x : Vec F S1x1024x1024 .f32) (w : Vec F S1024x1024 .f32) (b g be : Vec F S1x1024 .f32) (y : S1x1024x1024.Idx) :
    ∃ p ∈ stores i n x w b g be, y ∈ p.1.set :=
  View.cover_of_tiledL (stores i n x w b g be) S1x256x1024.size (by sl_kernel_rfl) y

/-- What the body leaves in the result's tile. -/
def tileOut (i : grid0.Coords) (n : BitVec 32) (x : Vec F S1x1024x1024 .f32) (w : Vec F S1024x1024 .f32) (b g be : Vec F S1x1024 .f32) : Vec F S1x1024x1024 .f32 :=
  View.canon (stores i n x w b g be)

/-! ## The chunks run -/

section
variable (c : Dev nD) (arg3 : Memref sig .tc .vmem S1x1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024x1024 .f32) (harg8 : arg8.IsWhole)

/-- The five input tiles, held at what they read. -/
abbrev inputs (x : Vec F S1x1024x1024 .f32) (w : Vec F S1024x1024 .f32) (b g be : Vec F S1x1024 .f32) : sProp 𝕄 :=
  iprop(owns (c : Thread nD τ) arg3 fullShare x ∗ owns (c : Thread nD τ) arg4 fullShare w ∗ owns (c : Thread nD τ) arg5 fullShare b
    ∗ owns (c : Thread nD τ) arg6 fullShare g ∗ owns (c : Thread nD τ) arg7 fullShare be)

include harg3 harg4 harg5 harg6 harg7 in
set_option maxHeartbeats 1600000 in
/-- A chunk adds its rows to what has been stored and leaves the inputs as they were; then the rest runs. -/
theorem chunk_wp (x : Vec F S1x1024x1024 .f32) (w : Vec F S1024x1024 .f32) (b g be : Vec F S1x1024 .f32)
    (off : Nat) (h : ∀ a, (![0, off, 0] : Fin 3 → Nat) a + S1x256x1024.size a ≤ S1x1024x1024.size a) (n start : BitVec 32)
    (next : Prog (TpuEff nD τ sig (Elt F) Λ₀ .tc) PUnit) (f : Buf (Elt F) (arg8.view.loc (c : Thread nD τ))) (L : List (View.Piece (Elt F) S1x1024x1024 .f32))
    (E : Set ℕ) (K : PUnit → sProp 𝕄) :
    iprop(inputs c arg3 arg4 arg5 arg6 arg7 x w b g be ∗ (arg8.view.loc (c : Thread nD τ) ↦[arg8.view.set]{fullShare} arg8.view.writes (Elt F) f L)
        ∗ (iprop(inputs c arg3 arg4 arg5 arg6 arg7 x w b g be
            ∗ (arg8.view.loc (c : Thread nD τ) ↦[arg8.view.set]{fullShare} arg8.view.writes (Elt F) f (⟨rowsAt off h, rowsOut off h n start x w b g be⟩ :: L)))
          -∗ wp frame (wpE (defs₀ (F := F)) Variants.none c none) E next K))
      ⊢ wp frame (wpE (defs₀ (F := F)) Variants.none c none) E (chunk arg3 arg4 arg5 arg6 arg7 arg8 off h n start next) K := by
  unfold chunk rowsOut inputs
  by_cases hlt : asCond (Scalar.cmpi .slt start n) = 1#1
  · have hge : ¬ asCond (Scalar.cmpi .sge start n) = 1#1 := fun e => (asCond_sge start n).mp e hlt
    simp only [if_pos hlt, if_neg hge]
    unfold owns
    iintro ⟨⟨⟨%f0, %hf0, H0⟩, ⟨%f1, %hf1, H1⟩, ⟨%f2, %hf2, H2⟩, ⟨%f3, %hf3, H3⟩, ⟨%f4, %hf4, H4⟩⟩, H5, Hk⟩
    obtain rfl := harg3.eq_unread hf0; obtain rfl := harg4.eq_unread hf1; obtain rfl := harg5.eq_unread hf2; obtain rfl := harg6.eq_unread hf3; obtain rfl := harg7.eq_unread hf4
    sl_exec
    have e3 : View.readAt (Elt F) arg3.view (rowsAt off h).toLoadRect (harg3.unread x) = View.ld x (rowsAt off h) :=
      funext fun j => harg3.readAt_unread x _ j
    have e4 : View.readAt (Elt F) arg4.view (Rect.unit (s := S1024x1024) ![0, 0] ![1024, 1024] inb_S1024x1024_S1024x1024_0_0).toLoadRect (harg4.unread w) = w :=
      (funext fun j => harg4.readAt_unread w _ j).trans (View.ld_unit_zero (by decide) _ w)
    have row {M : Memref sig .tc .vmem S1x1024 .f32} (hM : M.IsWhole) (d : Vec F S1x1024 .f32) :
        View.readAt (Elt F) M.view (Rect.unit (s := S1x1024) ![0, 0] ![1, 1024] inb_S1x1024_S1x1024_0_0).toLoadRect (hM.unread d) = d :=
      (funext fun j => hM.readAt_unread d _ j).trans (View.ld_unit_zero (by decide) _ d)
    rw [e3, e4, row harg5, row harg6, row harg7]
    iapply Hk
    isplitl [H0 H1 H2 H3 H4]
    · isplitl [H0]; · iexists _; isplitr; · ipureintro; exact hf0
                      iexact H0
      isplitl [H1]; · iexists _; isplitr; · ipureintro; exact hf1
                      iexact H1
      isplitl [H2]; · iexists _; isplitr; · ipureintro; exact hf2
                      iexact H2
      isplitl [H3]; · iexists _; isplitr; · ipureintro; exact hf3
                      iexact H3
      iexists _; isplitr; · ipureintro; exact hf4
      iexact H4
    iexact H5
  · have hge : asCond (Scalar.cmpi .sge start n) = 1#1 := (asCond_sge start n).mpr hlt
    simp only [if_neg hlt, if_pos hge]
    iintro ⟨HI, H5, Hk⟩
    sl_exec
    iapply Hk
    isplitl [HI]; · iexact HI
    iexact H5

set_option maxHeartbeats 1600000 in
/-- The whole body: from the inputs' tiles and half the lengths' table it leaves `tileOut` in the result's tile. -/
theorem body_wp (i : grid0.Coords) (T : pre0.Contents (Elt F)) (x : Vec F S1x1024x1024 .f32) (w : Vec F S1024x1024 .f32) (b g be : Vec F S1x1024 .f32)
    (E : Set ℕ) (K : PUnit → sProp 𝕄) :
    iprop(inputs c arg3 arg4 arg5 arg6 arg7 x w b g be ∗ (∃ d, owns (c : Thread nD τ) arg8 fullShare d) ∗ lensPt c lens (T 0)
        ∗ (iprop(inputs c arg3 arg4 arg5 arg6 arg7 x w b g be
            ∗ owns (c : Thread nD τ) arg8 fullShare (tileOut i (T.at 0 (Rect.unit (k0_off1 i) S1.size (k0_off1_inb i)) numel1_S1) x w b g be) ∗ lensPt c lens (T 0)) -∗ K ⟨⟩))
      ⊢ wp frame (wpE (defs₀ (F := F)) Variants.none c none) E
        (cc0__mlp_body (F := F) i lens (Memref.isWhole_whole _) arg3 harg3 arg4 harg4 arg5 harg5 arg6 harg6 arg7 harg7 arg8 harg8) K := by
  rw [body_eq]
  iintro ⟨HI, ⟨%d, H5⟩, HT, Hk⟩
  ihave H5 := (show owns (c : Thread nD τ) arg8 fullShare d ⊢ iprop(∃ f, arg8.view.loc (c : Thread nD τ) ↦[arg8.view.set]{fullShare} arg8.view.writes (Elt F) f []) from by
    unfold owns
    iintro ⟨%f, -, H⟩
    iexists f; iexact H) $$ H5
  icases H5 with ⟨%f, H5⟩
  sl_exec
  iapply (chunk_wp c arg3 harg3 arg4 harg4 arg5 harg5 arg6 harg6 arg7 harg7 arg8 x w b g be)
  isplitl [HI]; · iexact HI
  isplitl [H5]; · iexact H5
  iintro ⟨HI, H5⟩
  iapply (chunk_wp c arg3 harg3 arg4 harg4 arg5 harg5 arg6 harg6 arg7 harg7 arg8 x w b g be)
  isplitl [HI]; · iexact HI
  isplitl [H5]; · iexact H5
  iintro ⟨HI, H5⟩
  iapply (chunk_wp c arg3 harg3 arg4 harg4 arg5 harg5 arg6 harg6 arg7 harg7 arg8 x w b g be)
  isplitl [HI]; · iexact HI
  isplitl [H5]; · iexact H5
  iintro ⟨HI, H5⟩
  iapply (chunk_wp c arg3 harg3 arg4 harg4 arg5 harg5 arg6 harg6 arg7 harg7 arg8 x w b g be)
  isplitl [HI]; · iexact HI
  isplitl [H5]; · iexact H5
  iintro ⟨HI, H5⟩
  sl_step
  iapply Hk
  isplitl [HI]; · iexact HI
  isplitl [H5]
  · unfold owns; iexists _; isplitr
    swap; · iexact H5
    ipureintro
    exact View.read_writes_eq_canon _ _ _ (stores_cover i _ x w b g be)
  iexact HT

end

end Cert.KernelIdeal.Run

end
-- ==== Proof.Run.lean ====
/- The run: what each window's buffer holds at each point, the body's obligation there, and the whole program's run
   from any launch, its arguments unchanged and its counters at zero. -/
module

public import proofs.«01_k».proof.Proof.Chunk

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The length the body reads at the point `i`. -/
abbrev lenAt (i : grid0.Coords) : Elt F .i32 := (tbl m).at 0 (Rect.unit (k0_off1 i) S1.size (k0_off1_inb i)) numel1_S1

/-- What the body leaves in the result's tile at point `t`. -/
def outAt (c : Dev nD) (t : Fin (cfgM m).N) : Vec F S1x1024x1024 .f32 :=
  tileOut (grid0.coords t) (lenAt m (grid0.coords t)) (iblk m c 0 t) (iblk m c 1 t) (iblk m c 2 t) (iblk m c 3 t) (iblk m c 4 t)

/-- The launch's proof data: every input buffer keeps its block, the result's holds `outAt`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := iprop(Pipeline.ΦA spec0 c ∗ Pipeline.ΦT pre0 (tbl m) c)
  q _ := fullShare
  owed _ := 0

/-- Its arrays are the buffers as the pipeline finds them. -/
theorem A_eq (c : Dev nD) (w : Fin (cfgM m).W) : (dats m 0 c).A w = V m c (Pipeline.arrRef spec0 w) := by
  dsimp only [dats]

/-- Input `0`'s buffer keeps its block; -/
theorem after_0 (c : Dev nD) (t : Fin (cfgM m).N) : (dats m 0 c).after 0 t = iblk m c 0 t := by dsimp only [dats]; try rfl
/-- so does input `1`'s, -/
theorem after_1 (c : Dev nD) (t : Fin (cfgM m).N) : (dats m 0 c).after 1 t = iblk m c 1 t := by dsimp only [dats]; try rfl
/-- input `2`'s, -/
theorem after_2 (c : Dev nD) (t : Fin (cfgM m).N) : (dats m 0 c).after 2 t = iblk m c 2 t := by dsimp only [dats]; try rfl
/-- input `3`'s, -/
theorem after_3 (c : Dev nD) (t : Fin (cfgM m).N) : (dats m 0 c).after 3 t = iblk m c 3 t := by dsimp only [dats]; try rfl
/-- input `4`'s. -/
theorem after_4 (c : Dev nD) (t : Fin (cfgM m).N) : (dats m 0 c).after 4 t = iblk m c 4 t := by dsimp only [dats]; try rfl
/-- The result's buffer is left at `outAt`. -/
theorem after_5 (c : Dev nD) (t : Fin (cfgM m).N) : (dats m 0 c).after 5 t = outAt m c t := by dsimp only [dats]; try rfl

/-- Before the body, input `0`'s buffer holds its block; -/
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- so does input `1`'s, -/
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- input `2`'s, -/
theorem before_2 (c : Dev nD) (t : Fin (cfgM m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- input `3`'s, -/
theorem before_3 (c : Dev nD) (t : Fin (cfgM m).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- input `4`'s. -/
theorem before_4 (c : Dev nD) (t : Fin (cfgM m).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The buffer window `w` is staged in at point `t`. -/
abbrev stg (t : Fin (cfgM m).N) (w : Fin (cfgM m).W) := ((cfgM m).win w).stage ((cfgM m).slots t w)

/-- What the body is called with at point `t`: -/
def before (c : Dev nD) (t : Fin (cfgM m).N) : sProp 𝕄 :=
  iprop((dats m 0 c).Φ t.castSucc ∗ (dats m 0 c).owesAt () t.castSucc
    ∗ (∃ d, owns (c : Thread nD τ) (stg m t 0) fullShare ((dats m 0 c).before 0 t d))
    ∗ (∃ d, owns (c : Thread nD τ) (stg m t 1) fullShare ((dats m 0 c).before 1 t d))
    ∗ (∃ d, owns (c : Thread nD τ) (stg m t 2) fullShare ((dats m 0 c).before 2 t d))
    ∗ (∃ d, owns (c : Thread nD τ) (stg m t 3) fullShare ((dats m 0 c).before 3 t d))
    ∗ (∃ d, owns (c : Thread nD τ) (stg m t 4) fullShare ((dats m 0 c).before 4 t d))
    ∗ (∃ d, owns (c : Thread nD τ) (stg m t 5) fullShare ((dats m 0 c).before 5 t d)))

/-- and what it returns. -/
def after (c : Dev nD) (t : Fin (cfgM m).N) : sProp 𝕄 :=
  iprop((dats m 0 c).Φ t.succ ∗ (dats m 0 c).owesAt () t.succ
    ∗ owns (c : Thread nD τ) (stg m t 0) fullShare ((dats m 0 c).after 0 t)
    ∗ owns (c : Thread nD τ) (stg m t 1) fullShare ((dats m 0 c).after 1 t)
    ∗ owns (c : Thread nD τ) (stg m t 2) fullShare ((dats m 0 c).after 2 t)
    ∗ owns (c : Thread nD τ) (stg m t 3) fullShare ((dats m 0 c).after 3 t)
    ∗ owns (c : Thread nD τ) (stg m t 4) fullShare ((dats m 0 c).after 4 t)
    ∗ owns (c : Thread nD τ) (stg m t 5) fullShare ((dats m 0 c).after 5 t))

set_option maxHeartbeats 1600000 in
/-- The body at any point. -/
theorem body_sound (c : Dev nD) (t : Fin (cfgM m).N) :
    before m c t ⊢ wp frame (wpE (defs₀ (F := F)) Variants.none c none) Set.univ (bodyAt (adm m) t) (fun _ => after m c t) := by
  unfold before after bodyAt
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = iprop(Pipeline.ΦA spec0 c ∗ Pipeline.ΦT pre0 (tbl m) c) from rfl, lens_eq]
  unfold outAt
  iintro ⟨⟨HΦ, HT⟩, Ho, ⟨%d0, H0⟩, ⟨%d1, H1⟩, ⟨%d2, H2⟩, ⟨%d3, H3⟩, ⟨%d4, H4⟩, ⟨%d5, H5⟩⟩
  iapply (body_wp c _ _ _ _ _ _ _ _ _ _ _ _ (grid0.coords t) (tbl m) (iblk m c 0 t) (iblk m c 1 t) (iblk m c 2 t) (iblk m c 3 t) (iblk m c 4 t) Set.univ _)
  isplitl [H0 H1 H2 H3 H4]
  · isplitl [H0]; · iexact H0
    isplitl [H1]; · iexact H1
    isplitl [H2]; · iexact H2
    isplitl [H3]; · iexact H3
    iexact H4
  isplitl [H5]; · iexists _; iexact H5
  isplitl [HT]; · iexact HT
  iintro ⟨⟨H0, H1, H2, H3, H4⟩, H5, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  iexact H5

/-- The body's row of the call table is the body. -/
theorem row_eq (t : Fin (cfgM m).N) : defs₀ (F := F) .tc (cfgM m).body ((cfgM m).bodyArgs t ((cfgM m).slots t)) = bodyAt (adm m) t := by
  unfold defs₀; rw [Defs.onTc_tc]

/-- Where every window the body may leave alone is written back, the obligation asks for each buffer at what the body
    leaves there, whether or not the point is one where the body may leave it alone. -/
theorem obligation_of_flushed {cfg : Cfg sig Λ₀} {c : Dev nD} (dat : Dat τ (Elt F) Unit ℕ (UR sig nD τ) ℕ cfg c)
    (hflush : ∀ t w, cfg.idle w (cfg.grid.coords t) = true → (cfg.win w).flush t = true)
    (h : ∀ t : Fin cfg.N, iprop(dat.Φ t.castSucc ∗ dat.owesAt () t.castSucc
          ∗ bigSep Finset.univ fun w : Fin cfg.W => iprop(∃ d, owns (c : Thread nD τ) ((cfg.win w).stage (cfg.slots t w)) fullShare (dat.before w t d)))
        ⊢ wp frame (wpE (defs₀ (F := F)) Variants.none c none) Set.univ (defs₀ (F := F) .tc cfg.body (cfg.bodyArgs t (cfg.slots t))) fun _ =>
          iprop(dat.Φ t.succ ∗ dat.owesAt () t.succ
            ∗ bigSep Finset.univ fun w : Fin cfg.W => owns (c : Thread nD τ) ((cfg.win w).stage (cfg.slots t w)) fullShare (dat.after w t))) :
    BodyObligation dat (defs₀ (F := F)) Variants.none () Set.univ := fun t => by
  refine triple_restated (h t) rfl .rfl fun _ => sep_mono .rfl (sep_mono .rfl (.of_eq (congrArg _ (funext fun w => ?_))))
  have hf := hflush t w
  revert hf
  dsimp only
  cases cfg.idle w (cfg.grid.coords t)
  · intro _; rfl
  · intro hf; rw [hf rfl]

/-- The library's obligation for the body, at every point. -/
theorem body_obligation (c : Dev nD) : BodyObligation (dats (F := F) m 0 c) (defs₀ (F := F)) Variants.none () Set.univ :=
  obligation_of_flushed (dats m 0 c) (fun t w h => by
    fin_cases w
    · exact absurd h Bool.false_ne_true
    · exact absurd h Bool.false_ne_true
    · exact absurd h Bool.false_ne_true
    · exact absurd h Bool.false_ne_true
    · exact absurd h Bool.false_ne_true
    · exact flush_result (adm m) t) fun t => by
  rw [bigSep_W0, bigSep_W0, row_eq m]
  exact triple_restated (body_sound m c t) rfl .rfl fun _ => .rfl

-- the launch theorem's implicit arguments are found by unifying its conclusion with this one
set_option backward.isDefEq.respectTransparency.types false in
/-- The program runs from any launch: the pipeline's end state, and every counter at zero. -/
theorem run_quiescent : θ_run defs (onTc (τ := τ) (main (F := F))) (s₀ m ρ) (fun r => Pipeline.FramePost (Pipeline.pin pcfgs fun _ => adm m) (dats m) 0 (V m) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl) (howed := fun _ _ => rfl)
    (V := V m) (hmain := hmain m Variants.none) (hA := A_eq m) (hpf := V_pre m) (hΦ := fun _ _ => rfl)

/-- The frame: after the run every argument is unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨args_of_run m (dats m) (A_eq m) h.1, h.2⟩) (run_quiescent m ρ)

end Cert.KernelIdeal.Run

end
-- ==== Proof.TileValue.lean ====
/- What the body leaves in a tile, at an index: the row of the layer there, kept where the position is before the
   length. One statement for the chunks that are computed and those that are zeroed. -/
module

public import proofs.«01_k».proof.Proof.Chunk
public import proofs.«01_k».proof.Proof.Row
public import Idealize.ShloMosaic.Lib.Pipeline.ReadBack
public import Idealize.ShloMosaic.Lib.Pipeline.ValueKit.Tiles

@[expose] public section

set_option maxRecDepth 16384

noncomputable section

namespace Cert.KernelIdeal.Run

open Cert.KernelIdeal Cert.KernelIdeal.Gen
open Idealize.ShloMosaic

/-- A computed chunk before its mask: the layer's row. -/
theorem pay_apply (x : Vec Ideal S1x256x1024 .f32) (w : Vec Ideal S1024x1024 .f32) (b g be : Vec Ideal S1x1024 .f32) (r : Fin 256) (j : Fin 1024) :
    k0_pay9 (F := Ideal) x w b g be (ix2 r j)
      = Row.out (Row.lin (fun k => x (ix3 0 r k)) (fun k j => w (ix2 k j)) (fun j => b (ix2 0 j))) (fun j => g (ix2 0 j)) (fun j => be (ix2 0 j)) j := by
  pointwise [k0_pay9]
  unfold Row.out
  rw [← Row.div_root]
  rfl

/-- A position before the length. -/
abbrev live (p : Nat) (n : BitVec 32) : Prop := (p : Int) < n.toInt

/-- The comparison of a small position with a length, as a choice. -/
theorem select_slt (p : Nat) (hp : p < 4096) (q n : BitVec 32) (hq : q = BitVec.ofNat 32 p) (a b : EReal) :
    Scalar.select (IntOp.cmpi .slt q n) a b = if live p n then a else b := by
  subst hq
  rw [WordCmp.cmpi_slt_eq]
  have e : (BitVec.ofNat 32 p).toInt = (p : Int) := Tile.toInt_ofNat_small p (by omega)
  rw [e]
  by_cases h : (p : Int) < n.toInt
  · rw [if_pos h, decide_eq_true h]; rfl
  · rw [if_neg h, decide_eq_false h]; rfl

/-- The branch word of a chunk says whether its first position is before the length. -/
theorem asCond_slt (p : Nat) (hp : p < 4096) (q n : BitVec 32) (hq : q = BitVec.ofNat 32 p) : asCond (Scalar.cmpi .slt q n) = 1#1 ↔ live p n := by
  subst hq
  unfold asCond
  simp only [Scalar.cmpi, Scalar.extui]
  rw [WordCmp.cmpi_slt_eq]
  have e : (BitVec.ofNat 32 p).toInt = (p : Int) := Tile.toInt_ofNat_small p (by omega)
  rw [e]
  by_cases h : (p : Int) < n.toInt
  · simp [h]; decide
  · simp [h]; decide

/-- The tile's value at row `r`, its rows starting at position `base`. -/
def tileAt (base : Nat) (n : BitVec 32) (x : Vec Ideal S1x1024x1024 .f32) (w : Vec Ideal S1024x1024 .f32) (b g be : Vec Ideal S1x1024 .f32) (r j : Fin 1024) : EReal :=
  if live (base + r.val) n then
    Row.out (Row.lin (fun k => x (ix3 0 r k)) (fun k j => w (ix2 k j)) (fun j => b (ix2 0 j))) (fun j => g (ix2 0 j)) (fun j => be (ix2 0 j)) j
  else 0

/-- A chunk's rows are the tile's. -/
theorem rowsOut_apply (base off : Nat) (h : ∀ a, (![0, off, 0] : Fin 3 → Nat) a + S1x256x1024.size a ≤ S1x1024x1024.size a) (hoff : off + 256 ≤ 1024) (hb : base ≤ 1024)
    (n start : BitVec 32) (hs : start = BitVec.ofNat 32 (base + off))
    (x : Vec Ideal S1x1024x1024 .f32) (w : Vec Ideal S1024x1024 .f32) (b g be : Vec Ideal S1x1024 .f32) (z : Fin 1) (r : Fin 256) (j : Fin 1024) :
    rowsOut (F := Ideal) off h n start x w b g be (ix3 z r j) = tileAt base n x w b g be ⟨off + r.val, by omega⟩ j := by
  unfold rowsOut tileAt
  by_cases hl : live (base + off) n
  · rw [if_pos ((asCond_slt _ (by omega) _ _ hs).mpr hl)]
    pointwise [chunkVal, k0_pay1, k0_pay10]
    rw [select_slt (base + off + r.val) (by omega) _ _ (by rw [hs]; unfold IntOp.addi; bv_omega), pay_apply, Nat.add_assoc]
    have e (k : Fin 1024) : View.ld x (rowsAt off h) (ix3 0 r k) = x (ix3 0 ⟨off + r.val, by omega⟩ k) :=
      View.ld_unit_apply_of x _ _ _ _ _ fun a => by fin_cases a <;> simp
    simp only [e]
  · rw [if_neg (fun e => hl ((asCond_slt _ (by omega) _ _ hs).mp e)), if_neg (fun e => hl (by unfold live at *; push_cast at *; omega))]
    pointwise [k0_pay2]

/-- The first position of the tile at the point `i`. -/
abbrev baseOf (i : grid0.Coords) : Nat := 1024 * (i 1).val

/-- A chunk's first position, as the body computes it. -/
theorem rowOf_eq (i : grid0.Coords) (off : Nat) (ho : off < 1024) : rowOf i (BitVec.ofNat 32 off) = BitVec.ofNat 32 (baseOf i + off) := by
  have hi : (i 1).val < 2 := (i 1).isLt
  unfold rowOf baseOf
  simp only [Scalar.addi, Scalar.muli, IntOp.addi, IntOp.muli]
  bv_omega

/-- The tile the body leaves. -/
theorem tileOut_apply (i : grid0.Coords) (n : BitVec 32) (x : Vec Ideal S1x1024x1024 .f32) (w : Vec Ideal S1024x1024 .f32) (b g be : Vec Ideal S1x1024 .f32) (y : S1x1024x1024.Idx) :
    tileOut (F := Ideal) i n x w b g be y = tileAt (baseOf i) n x w b g be (y 1) (y 2) := by
  have hi : (i 1).val < 2 := (i 1).isLt
  have hb : baseOf i ≤ 1024 := by unfold baseOf; omega
  have piece (off : Nat) (h : ∀ a, (![0, off, 0] : Fin 3 → Nat) a + S1x256x1024.size a ≤ S1x1024x1024.size a) (hoff : off + 256 ≤ 1024)
      (v : (rowsAt off h).shape.Idx) :
      rowsOut (F := Ideal) off h n (rowOf i (BitVec.ofNat 32 off)) x w b g be v
        = tileAt (baseOf i) n x w b g be ((rowsAt off h).emb v 1) ((rowsAt off h).emb v 2) := by
    obtain ⟨z, r, j, rfl⟩ : ∃ (z : Fin 1) (r : Fin 256) (j : Fin 1024), v = ix3 z r j :=
      ⟨v 0, v 1, v 2, funext fun a => by fin_cases a <;> rfl⟩
    rw [rowsOut_apply (baseOf i) off h hoff hb n _ (rowOf_eq i off (by omega))]
    congr 1
    · exact Fin.ext (by show off + r.val = off + 1 * r.val; omega)
    · exact Fin.ext (by show j.val = 0 + 1 * j.val; omega)
  unfold tileOut
  have := View.canon_append_of_piecesOf (Val := Elt Ideal) (fun y : S1x1024x1024.Idx => tileAt (baseOf i) n x w b g be (y 1) (y 2)) [] (stores i n x w b g be)
    ⟨piece 768 _ (by omega), piece 512 _ (by omega), piece 256 _ (by omega), piece 0 _ (by omega), trivial⟩ y (stores_cover i n x w b g be y)
  rwa [List.append_nil] at this

end Cert.KernelIdeal.Run

end
-- ==== Proof.Value.lean ====
/- What the kernel leaves in its result: at every position before the length the row of the layer, at every other zero;
   from the tiles the body leaves, the blocks of the arguments each was computed from, and the tiles' cover of the array. -/
module

public import proofs.«01_k».proof.Proof.Run
public import proofs.«01_k».proof.Proof.TileValue
public import Idealize.ShloMosaic.Lib.Pipeline.ValueKit.Geometry
public import Idealize.ShloMosaic.Lib.StableHlo.Run

@[expose] public section

set_option maxRecDepth 16384

noncomputable section

namespace Cert.KernelIdeal.Run

open Cert.KernelIdeal Cert.KernelIdeal.Gen
open Idealize.ShloMosaic Idealize.ShloMosaic.TcCoe
open Idealize.SL Idealize.SL.Sem

variable (m : (ℓ : Loc nD τ sig) → Buf (Elt Ideal) ℓ)

/-! ## The arguments, and what the result should hold -/

/-- The positions' inputs, as launched; -/
abbrev argX (c : Dev nD) : Vec Ideal S16x2048x1024 .f32 := m ((c.tc : Thread nD τ).loc main_arg0)
/-- the lengths; -/
abbrev argN (c : Dev nD) : Vec Ideal S16 .i32 := m ((c.tc : Thread nD τ).loc main_arg1)
/-- the weights; -/
abbrev argW (c : Dev nD) : Vec Ideal S1024x1024 .f32 := m ((c.tc : Thread nD τ).loc main_arg2)
/-- the bias; -/
abbrev argB (c : Dev nD) : Vec Ideal S1024 .f32 := m ((c.tc : Thread nD τ).loc main_arg3)
/-- the normalization's scale -/
abbrev argG (c : Dev nD) : Vec Ideal S1024 .f32 := m ((c.tc : Thread nD τ).loc main_arg4)
/-- and shift. -/
abbrev argE (c : Dev nD) : Vec Ideal S1024 .f32 := m ((c.tc : Thread nD τ).loc main_arg5)

/-- The result at sequence `B`, position `r`, feature `j`. -/
def valAt (x : Vec Ideal S16x2048x1024 .f32) (n : Vec Ideal S16 .i32) (w : Vec Ideal S1024x1024 .f32) (b g be : Vec Ideal S1024 .f32) (B : Fin 16) (r : Fin 2048) (j : Fin 1024) : EReal :=
  if live r.val (n (ix1 B)) then
    Row.out (Row.lin (fun k => x (ix3 B r k)) (fun k j => w (ix2 k j)) (fun j => b (ix1 j))) (fun j => g (ix1 j)) (fun j => be (ix1 j)) j
  else 0

/-- The whole result. -/
def result (c : Dev nD) : Vec Ideal S16x2048x1024 .f32 := fun y =>
  valAt (argX m c) (argN m c) (argW m c) (argB m c) (argG m c) (argE m c) (y 0) (y 1) (y 2)

/-! ## The blocks of the arguments -/

/-- The length the body reads at the point `i` is that of the sequence of the point. -/
theorem lenAt_eq (c : Dev nD) (i : grid0.Coords) (B : Fin 16) (hB : B.val = (i 0).val) : lenAt m i = argN m c (ix1 B) := by
  obtain rfl : c = 0 := Subsingleton.elim _ _
  have hi : (i 0).val < 16 := (i 0).isLt
  unfold lenAt tbl
  show V m 0 main_arg1 _ = _
  rw [V_of_ne m 0 main_arg1 (by decide) (by decide) (by decide)]
  refine congrArg (m ((0 : Dev nD), main_arg1)) (funext fun a => ?_)
  fin_cases a
  refine Fin.ext ?_
  show (BitVec.ofNat 32 (i 0).val).toNat + 1 * 0 = B.val
  rw [WordArith.toNat_ofNat_of_lt _ (by omega)]
  omega

/-- The input block staged at a point that still holds a position before the length: its own 1024 positions. -/
theorem iblk_0 (c : Dev nD) (t : Fin (cfgM m).N) (B : Fin 16) (hB : B.val = (grid0.coords t 0).val) (r k : Fin 1024) (p : Fin 2048)
    (hp : p.val = baseOf (grid0.coords t) + r.val)
    (hl : live (baseOf (grid0.coords t)) (lenAt m (grid0.coords t))) (hn : (lenAt m (grid0.coords t) : BitVec 32).toInt ≤ 2147482624) :
    iblk m c 0 t (ix3 0 r k) = argX m c (ix3 B p k) := by
  show V m c main_arg0 _ = _
  rw [V_of_ne m c main_arg0 (by decide) (by decide) (by decide)]
  refine congrArg (m ((c.tc : Thread nD τ).loc main_arg0)) (funext fun a => Fin.ext ?_)
  have h0 : (grid0.coords t 0).val < 16 := (grid0.coords t 0).isLt
  have h1 : (grid0.coords t 1).val < 2 := (grid0.coords t 1).isLt
  have e : ((cfgM m).win 0).index t = ![(BitVec.ofNat 32 (grid0.coords t 0).val).toNat, (Tile.staged (BitVec.ofNat 32 (grid0.coords t 1).val) (lenAt m (grid0.coords t))).toNat, 0] :=
    Tile.transform_0_eq (tbl m) (grid0.coords t)
  rw [Tile.staged_eq _ h1 _ (by unfold live baseOf at hl; exact_mod_cast hl) hn] at e
  have key : ((((cfgM m).win 0).blk t).view.emb (ix3 0 r k) a).val = ((cfgM m).win 0).index t a * S1x1024x1024.size a + 1 * (ix3 (0 : Fin 1) r k a).val := rfl
  refine key.trans ?_
  rw [e]
  fin_cases a
  · show (BitVec.ofNat 32 (grid0.coords t 0).val).toNat * 1 + 1 * 0 = B.val
    rw [WordArith.toNat_ofNat_of_lt _ (by omega)]; omega
  · show (grid0.coords t 1).val * 1024 + 1 * r.val = p.val
    unfold baseOf at hp; omega
  · show 0 * 1024 + 1 * k.val = k.val
    omega

/-- The weights' block is the weights. -/
theorem iblk_1 (c : Dev nD) (t : Fin (cfgM m).N) (k j : Fin 1024) : iblk m c 1 t (ix2 k j) = argW m c (ix2 k j) := by
  show V m c main_arg2 _ = _
  rw [V_of_ne m c main_arg2 (by decide) (by decide) (by decide)]
  refine congrArg (m ((c.tc : Thread nD τ).loc main_arg2)) (funext fun a => Fin.ext ?_)
  fin_cases a
  · show 0 * 1024 + 1 * k.val = k.val; omega
  · show 0 * 1024 + 1 * j.val = j.val; omega

/-- A vector reshaped to one row, at an index. -/
theorem reshape_apply (v : Vec Ideal S1024 .f32) (j : Fin 1024) : shapeCast S1x1024 v shapeCasts_S1024_S1x1024 (ix2 0 j) = v (ix1 j) := by
  pointwise

/-- The first reshape writes the bias, -/
theorem V_v0 (c : Dev nD) (j : Fin 1024) : V m c main_v0 (ix2 0 j) = argB m c (ix1 j) := by
  unfold V; after_results_simp; exact reshape_apply _ j
/-- the second the scale -/
theorem V_v1 (c : Dev nD) (j : Fin 1024) : V m c main_v1 (ix2 0 j) = argG m c (ix1 j) := by
  unfold V; after_results_simp; exact reshape_apply _ j
/-- and the third the shift. -/
theorem V_v2 (c : Dev nD) (j : Fin 1024) : V m c main_v2 (ix2 0 j) = argE m c (ix1 j) := by
  unfold V; after_results_simp; exact reshape_apply _ j

/-- A block that is its whole one-row array places an index at itself. -/
theorem row_index {x : S1x1024.Idx} {j : Fin 1024} (h0 : (x 0).val = 0 * 1 + 1 * 0) (h1 : (x 1).val = 0 * 1024 + 1 * j.val) : x = ix2 (0 : Fin 1) j :=
  funext fun a => Fin.ext (by
    fin_cases a
    · exact h0
    · exact h1.trans (by show _ = j.val; omega))

/-- The bias block is the bias, -/
theorem iblk_2 (c : Dev nD) (t : Fin (cfgM m).N) (j : Fin 1024) : iblk m c 2 t (ix2 0 j) = argB m c (ix1 j) :=
  (congrArg (V m c main_v0) (row_index rfl rfl)).trans (V_v0 m c j)
/-- the scale block the scale -/
theorem iblk_3 (c : Dev nD) (t : Fin (cfgM m).N) (j : Fin 1024) : iblk m c 3 t (ix2 0 j) = argG m c (ix1 j) :=
  (congrArg (V m c main_v1) (row_index rfl rfl)).trans (V_v1 m c j)
/-- and the shift block the shift. -/
theorem iblk_4 (c : Dev nD) (t : Fin (cfgM m).N) (j : Fin 1024) : iblk m c 4 t (ix2 0 j) = argE m c (ix1 j) :=
  (congrArg (V m c main_v2) (row_index rfl rfl)).trans (V_v2 m c j)

/-! ## The array -/

/-- What the body leaves at a point, at an index `y` of the tile: the result at the index `e` of the array that `y` is. -/
theorem outAt_apply (c : Dev nD) (hn : ∀ B, (argN m c (ix1 B) : BitVec 32).toInt ≤ 2147482624) (t : Fin (cfgM m).N) (y : S1x1024x1024.Idx) (e : S16x2048x1024.Idx)
    (h0 : (e 0).val = (grid0.coords t 0).val) (h1 : (e 1).val = baseOf (grid0.coords t) + (y 1).val) (h2 : e 2 = y 2) :
    outAt m c t y = result m c e := by
  have en := lenAt_eq m c (grid0.coords t) (e 0) h0
  refine (tileOut_apply _ _ _ _ _ _ _ y).trans ?_
  show _ = valAt _ _ _ _ _ _ (e 0) (e 1) (e 2)
  rw [h2]
  unfold tileAt valAt
  rw [h1, ← en]
  by_cases hl : live (baseOf (grid0.coords t) + (y 1).val) (lenAt m (grid0.coords t))
  · rw [if_pos hl, if_pos hl]
    have hb : live (baseOf (grid0.coords t)) (lenAt m (grid0.coords t)) := by unfold live at *; push_cast at *; omega
    have ex : (fun k => iblk m c 0 t (ix3 0 (y 1) k)) = fun k => argX m c (ix3 (e 0) (e 1) k) :=
      funext fun k => iblk_0 m c t (e 0) h0 (y 1) k (e 1) h1 hb (by rw [en]; exact hn (e 0))
    have ew : (fun k j => iblk m c 1 t (ix2 k j)) = fun k j => argW m c (ix2 k j) := funext fun k => funext fun j => iblk_1 m c t k j
    have eb : (fun j => iblk m c 2 t (ix2 0 j)) = fun j => argB m c (ix1 j) := funext fun j => iblk_2 m c t j
    have eg : (fun j => iblk m c 3 t (ix2 0 j)) = fun j => argG m c (ix1 j) := funext fun j => iblk_3 m c t j
    have ee : (fun j => iblk m c 4 t (ix2 0 j)) = fun j => argE m c (ix1 j) := funext fun j => iblk_4 m c t j
    exact congrFun (congrArg₂ (fun f g => f g) (congrArg₂ (fun h g => Row.out h g)
      ((congrArg (fun x => Row.lin x _ _) ex).trans ((congrArg (fun w => Row.lin _ w _) ew).trans (congrArg (fun b => Row.lin _ _ b) eb))) eg) ee) (y 2)
  · rw [if_neg hl, if_neg hl]

/-- The tiles written back cover the result. -/
theorem covers : ((cfgM m).win 5).Covers := of_decide_eq_true (by sl_kernel_rfl)

/-- After the run the result's array holds the layer's rows at the positions before the lengths and zeros elsewhere. -/
theorem final (c : Dev nD) (hn : ∀ B, (argN m c (ix1 B) : BitVec 32).toInt ≤ 2147482624) : (dats m 0 c).arrAt 5 (cfgM m).N = result m c := by
  refine (dats m 0 c).arrAt_eq_of_covers 5 (result m c) (covers m) fun t hf (y : S1x1024x1024.Idx) => ?_
  blk_simp
  rw [after_5]
  have h0 : (grid0.coords t 0).val < 16 := (grid0.coords t 0).isLt
  have h1 : (grid0.coords t 1).val < 2 := (grid0.coords t 1).isLt
  have y0 : (y 0).val < 1 := (y 0).isLt
  refine outAt_apply m c hn t y _ ?_ ?_ ?_
  · show (BitVec.ofNat 32 (grid0.coords t 0).val).toNat * 1 + 1 * (y 0).val = _
    rw [WordArith.toNat_ofNat_of_lt _ (by omega)]; omega
  · show (BitVec.ofNat 32 (grid0.coords t 1).val).toNat * 1024 + 1 * (y 1).val = _
    rw [WordArith.toNat_ofNat_of_lt _ (by omega)]; unfold baseOf; omega
  · refine Fin.ext ?_
    show 0 * 1024 + 1 * (y 2).val = _
    omega

end Cert.KernelIdeal.Run

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_lengths_round_up
public import Idealize.ShloMosaic.Adequacy
public import proofs.«01_k».proof.Proof.Gen.ReferenceIdeal.Run
public import proofs.«01_k».proof.Proof.Gen.ReferenceIdeal.Read
public import proofs.«01_k».proof.Proof.Ref
public import proofs.«01_k».proof.Proof.Value
public import Idealize.ShloMosaic.Init
public import Idealize.ShloMosaic.PureOps.BitExact
public import Idealize.ShloMosaic.Lib.Quiescent

@[expose] public section

set_option maxRecDepth 65536

noncomputable section

namespace Cert.Proof

open Idealize.ShloMosaic Idealize.SL.Sem

/-- The kernel's and the idealized kernel's call tables are one. -/
theorem defs_eq : Cert.Kernel.defs (F := Bits) = Cert.KernelIdeal.defs (F := Bits) := by
  sl_kernel_rfl

/-- The idealized kernel's frame, over any float values. -/
theorem frame_ideal : Cert.quiescent_KernelIdeal (hKernelIdeal := Cert.KernelIdeal.Gen.facts) :=
  fun m g _ => Cert.KernelIdeal.Run.frame m g

/-- The kernel's frame: its program is the idealized one's at the words, which replaced nothing. -/
theorem frame_kernel : Cert.quiescent_Kernel (hKernel := Cert.Kernel.Gen.facts) := fun m g _ => by
  have h := Cert.KernelIdeal.Run.frame (F := Bits) m g
  rw [← defs_eq] at h
  exact h

/-- The reference's frame: its run, and no counter is declared. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run m g)

/-- What the precondition says of a length: rounding it up to whole tiles stays an i32. -/
theorem length_le [Cert.Pre_lengths_round_up.Facts] {x n w b g be} (h : Cert.Pre_lengths_round_up.fn (F := Ideal) x n w b g be = fun _ => 1#1) (B : Fin 16) :
    (n (ix1 B)).toInt ≤ 2147482624 := by
  have e := congrFun h (ix1 B)
  revert e
  pointwise [Cert.Pre_lengths_round_up.fn]
  rw [WordCmp.cmpi_sle_eq, WordArith.ofBool_eq_one_iff, decide_eq_true_eq]
  exact id

/-- The reference's result is the kernel's, of the same arguments. -/
theorem reference_eq (x : Vec Ideal Cert.KernelIdeal.S16x2048x1024 .f32) (n : Vec Ideal Cert.KernelIdeal.S16 .i32) (w : Vec Ideal Cert.KernelIdeal.S1024x1024 .f32)
    (b g be : Vec Ideal Cert.KernelIdeal.S1024 .f32) :
    Cert.ReferenceIdeal.Read.val_main_v30 (F := Ideal) x n w b g be = fun y => Cert.KernelIdeal.Run.valAt x n w b g be (y 0) (y 1) (y 2) := by
  funext y
  obtain ⟨B, r, j, rfl⟩ : ∃ (B : Fin 16) (r : Fin 2048) (j : Fin 1024), y = ix3 B r j := ⟨y 0, y 1, y 2, funext fun a => by fin_cases a <;> rfl⟩
  rw [Cert.ReferenceIdeal.Read.result_apply]
  exact Cert.KernelIdeal.Run.select_slt r.val (by omega) _ _ rfl _ _

/-- Over exact arithmetic the kernel's result is the reference's. -/
theorem algebraic : Cert.algebraic_KernelIdeal_ReferenceIdeal_pre_lengths_round_up (hKernelIdeal := Cert.KernelIdeal.Gen.facts)
    (hReferenceIdeal := Cert.ReferenceIdeal.Gen.facts) (hPre_lengths_round_up := Cert.Pre_lengths_round_up.Gen.facts) := by
  intro m g m' g' hpre hm
  refine ⟨fun c => Cert.KernelIdeal.Run.result m c, ?_, ?_⟩
  · refine (θ_run Cert.KernelIdeal.defs _ _).mono (fun r h c => ?_) (Cert.KernelIdeal.Run.run_quiescent m g)
    exact ⟨((h.1 c).1 5).trans (Cert.KernelIdeal.Run.final m c (length_le (hpre c))),
      Cert.KernelIdeal.Run.args_of_run m (Cert.KernelIdeal.Run.dats m) (Cert.KernelIdeal.Run.A_eq m) h.1 c⟩
  · refine (θ_run Cert.ReferenceIdeal.defs _ _).mono (fun r h c => ⟨(h c).1.trans ?_, (h c).2⟩) (Cert.ReferenceIdeal.Value.run m' g')
    obtain ⟨e0, e1, e2, e3, e4, e5⟩ := hm c
    refine (Cert.ReferenceIdeal.Read.val_main_v30_eq m' c).trans ?_
    rw [e0, e1, e2, e3, e4, e5]
    exact reference_eq _ _ _ _ _ _

/-- Everything claimed. -/
theorem claim : Cert.Claim := ⟨Cert.Kernel.Gen.facts, Cert.KernelIdeal.Gen.facts, Cert.ReferenceIdeal.Gen.facts, Cert.Pre_lengths_round_up.Gen.facts,
  frame_kernel, frame_ideal, fun m g _ => frame_ideal m g trivial, frame_reference, fun m g _ => frame_reference m g trivial, trivial, algebraic⟩

end Cert.Proof

end
